-- ==== Defs.lean ====
def Pre_Kernel (m : (ℓ : Loc Cert.Kernel.nD Cert.Kernel.τ Cert.Kernel.sig) → Buf (Elt Bits) ℓ) : Prop :=
  True

def Pre_Kernel_tokens_nonneg [hPre_tokens_nonneg : Cert.Pre_tokens_nonneg.Facts] (m : (ℓ : Loc Cert.Kernel.nD Cert.Kernel.τ Cert.Kernel.sig) → Buf (Elt Bits) ℓ) : Prop :=
  ∀ c : Dev Cert.Kernel.nD,
    (Cert.Pre_tokens_nonneg.fn (F := Bits) (m ((c.tc : Thread Cert.Kernel.nD Cert.Kernel.τ).loc Cert.Kernel.main_arg0))) = (fun _ => 1#1)

def Pre_KernelIdeal (m : (ℓ : Loc Cert.KernelIdeal.nD Cert.KernelIdeal.τ Cert.KernelIdeal.sig) → Buf (Elt Ideal) ℓ) : Prop :=
  True

def Pre_KernelIdeal_tokens_nonneg [hPre_tokens_nonneg : Cert.Pre_tokens_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_nonneg.fn (F := Ideal) (m ((c.tc : Thread Cert.KernelIdeal.nD Cert.KernelIdeal.τ).loc Cert.KernelIdeal.main_arg0))) = (fun _ => 1#1)

def Pre_Reference (m : (ℓ : Loc Cert.Reference.nD Cert.Reference.τ Cert.Reference.sig) → Buf (Elt Bits) ℓ) : Prop :=
  True

def Pre_Reference_tokens_nonneg [hPre_tokens_nonneg : Cert.Pre_tokens_nonneg.Facts] (m : (ℓ : Loc Cert.Reference.nD Cert.Reference.τ Cert.Reference.sig) → Buf (Elt Bits) ℓ) : Prop :=
  ∀ c : Dev Cert.Reference.nD,
    (Cert.Pre_tokens_nonneg.fn (F := Bits) (m ((c.tc : Thread Cert.Reference.nD Cert.Reference.τ).loc Cert.Reference.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tokens_nonneg [hPre_tokens_nonneg : Cert.Pre_tokens_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tokens_nonneg.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_Kernel_pre_tokens_nonneg [hKernel : Cert.Kernel.Facts] [hPre_tokens_nonneg : Cert.Pre_tokens_nonneg.Facts] : Prop :=
  ∀ (m : (ℓ : Loc Cert.Kernel.nD Cert.Kernel.τ Cert.Kernel.sig) → Buf (Elt Bits) ℓ) (g : Dev Cert.Kernel.nD → PrngReg), Pre_Kernel_tokens_nonneg m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_tokens_nonneg [hKernelIdeal : Cert.KernelIdeal.Facts] [hPre_tokens_nonneg : Cert.Pre_tokens_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tokens_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_Reference_pre_tokens_nonneg [hReference : Cert.Reference.Facts] [hPre_tokens_nonneg : Cert.Pre_tokens_nonneg.Facts] : Prop :=
  ∀ (m : (ℓ : Loc Cert.Reference.nD Cert.Reference.τ Cert.Reference.sig) → Buf (Elt Bits) ℓ) (g : Dev Cert.Reference.nD → PrngReg), Pre_Reference_tokens_nonneg m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_tokens_nonneg [hReferenceIdeal : Cert.ReferenceIdeal.Facts] [hPre_tokens_nonneg : Cert.Pre_tokens_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tokens_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_tokens_nonneg [hKernelIdeal : Cert.KernelIdeal.Facts] [hReferenceIdeal : Cert.ReferenceIdeal.Facts] [hPre_tokens_nonneg : Cert.Pre_tokens_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tokens_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def bitexact_Kernel_Reference_pre_tokens_nonneg [hKernel : Cert.Kernel.Facts] [hReference : Cert.Reference.Facts] [hPre_tokens_nonneg : Cert.Pre_tokens_nonneg.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_tokens_nonneg m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v23) = v0 c
          ∧ r.2.mem ((c.tc : Thread Cert.Reference.nD Cert.Reference.τ).loc Cert.Reference.main_arg0) = m' ((c.tc : Thread Cert.Reference.nD Cert.Reference.τ).loc Cert.Reference.main_arg0))

def Claim : Prop :=
  ∃ (hKernel : Cert.Kernel.Facts) (hKernelIdeal : Cert.KernelIdeal.Facts) (hReference : Cert.Reference.Facts) (hReferenceIdeal : Cert.ReferenceIdeal.Facts) (hPre_tokens_nonneg : Cert.Pre_tokens_nonneg.Facts),
    quiescent_Kernel (hKernel := hKernel)
    ∧ quiescent_Kernel_pre_tokens_nonneg (hKernel := hKernel) (hPre_tokens_nonneg := hPre_tokens_nonneg)
    ∧ quiescent_KernelIdeal (hKernelIdeal := hKernelIdeal)
    ∧ quiescent_KernelIdeal_pre_tokens_nonneg (hKernelIdeal := hKernelIdeal) (hPre_tokens_nonneg := hPre_tokens_nonneg)
    ∧ quiescent_Reference (hReference := hReference)
    ∧ quiescent_Reference_pre_tokens_nonneg (hReference := hReference) (hPre_tokens_nonneg := hPre_tokens_nonneg)
    ∧ quiescent_ReferenceIdeal (hReferenceIdeal := hReferenceIdeal)
    ∧ quiescent_ReferenceIdeal_pre_tokens_nonneg (hReferenceIdeal := hReferenceIdeal) (hPre_tokens_nonneg := hPre_tokens_nonneg)
    ∧ preserves_Kernel_KernelIdeal
    ∧ algebraic_KernelIdeal_ReferenceIdeal_pre_tokens_nonneg (hKernelIdeal := hKernelIdeal) (hReferenceIdeal := hReferenceIdeal) (hPre_tokens_nonneg := hPre_tokens_nonneg)
    ∧ bitexact_Kernel_Reference_pre_tokens_nonneg (hKernel := hKernel) (hReference := hReference) (hPre_tokens_nonneg := hPre_tokens_nonneg)
-- ==== Pre_tokens_nonneg.lean ====
abbrev S4096x1 : Shape := ⟨2, ![4096, 1]⟩
abbrev S_ : Shape := ⟨0, ![]⟩

class Facts : Prop where
  bcast_S_S4096x1 : S_.BroadcastsInDim S4096x1 (![] : Fin 0 → Fin S4096x1.rank)

variable [Facts]

def fn {F : FTy → Type} [FloatOps F] (main_arg0 : IVec S4096x1 32) : IVec S4096x1 1 :=
  let main_c : IVec S_ 32 := constantI S_ 32 0#32
  let main_v0 : IVec S4096x1 32 := broadcastInDim S4096x1 ![] bcast_S_S4096x1 main_c
  let main_v1 : IVec S4096x1 1 := cmpi .sge main_arg0 main_v0
  main_v1
-- ==== Kernel.lean ====
abbrev S4096x1 : Shape := ⟨2, ![4096, 1]⟩
abbrev S4096x32000 : Shape := ⟨2, ![4096, 32000]⟩
abbrev S128x1 : Shape := ⟨2, ![128, 1]⟩
abbrev S128x32000 : Shape := ⟨2, ![128, 32000]⟩

abbrev nBuf : Space → Nat
  | .hbm => 2
  | .vmem => 4
  | .smem => 0
  | _ => 0

abbrev bufTy : (tb : Table) → Fin (tcTables nBuf tb) → BufTy
  | .hbm, ⟨0, _⟩ => ⟨S4096x1, .i32⟩
  | .hbm, ⟨1, _⟩ => ⟨S4096x32000, .f32⟩
  | .local _ .vmem, ⟨0, _⟩ => ⟨S128x1, .i32⟩
  | .local _ .vmem, ⟨1, _⟩ => ⟨S128x1, .i32⟩
  | .local _ .vmem, ⟨2, _⟩ => ⟨S128x32000, .f32⟩
  | .local _ .vmem, ⟨3, _⟩ => ⟨S128x32000, .f32⟩
  | _, _ => ⟨S4096x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x32000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S4096x1 : Shape := ⟨2, ![4096, 1]⟩
abbrev S_ : Shape := ⟨0, ![]⟩
abbrev S4096x32000 : Shape := ⟨2, ![4096, 32000]⟩
abbrev S4096 : Shape := ⟨1, ![4096]⟩
abbrev S4096x2 : Shape := ⟨2, ![4096, 2]⟩
abbrev S1 : Shape := ⟨1, ![1]⟩

abbrev nBuf : Space → Nat
  | .hbm => 38
  | .vmem => 0
  | .smem => 0
  | _ => 0

abbrev bufTy : (tb : Table) → Fin (tcTables nBuf tb) → BufTy
  | .hbm, ⟨0, _⟩ => ⟨S4096x1, .i32⟩
  | .hbm, ⟨1, _⟩ => ⟨S_, .f32⟩
  | .hbm, ⟨2, _⟩ => ⟨S4096x32000, .f32⟩
  | .hbm, ⟨3, _⟩ => ⟨S4096, .i32⟩
  | .hbm, ⟨4, _⟩ => ⟨S4096, .i32⟩
  | .hbm, ⟨5, _⟩ => ⟨S_, .i32⟩
  | .hbm, ⟨6, _⟩ => ⟨S4096, .i32⟩
  | .hbm, ⟨7, _⟩ => ⟨S4096, .i1⟩
  | .hbm, ⟨8, _⟩ => ⟨S_, .i32⟩
  | .hbm, ⟨9, _⟩ => ⟨S4096, .i32⟩
  | .hbm, ⟨10, _⟩ => ⟨S4096, .i32⟩
  | .hbm, ⟨11, _⟩ => ⟨S4096, .i32⟩
  | .hbm, ⟨12, _⟩ => ⟨S_, .i32⟩
  | .hbm, ⟨13, _⟩ => ⟨S4096, .i32⟩
  | .hbm, ⟨14, _⟩ => ⟨S4096, .i1⟩
  | .hbm, ⟨15, _⟩ => ⟨S_, .i32⟩
  | .hbm, ⟨16, _⟩ => ⟨S4096, .i32⟩
  | .hbm, ⟨17, _⟩ => ⟨S4096, .i32⟩
  | .hbm, ⟨18, _⟩ => ⟨S4096, .i32⟩
  | .hbm, ⟨19, _⟩ => ⟨S4096x1, .i32⟩
  | .hbm, ⟨20, _⟩ => ⟨S4096x1, .i32⟩
  | .hbm, ⟨21, _⟩ => ⟨S4096x2, .i32⟩
  | .hbm, ⟨22, _⟩ => ⟨S_, .f32⟩
  | .hbm, ⟨23, _⟩ => ⟨S4096, .f32⟩
  | .hbm, ⟨24, _⟩ => ⟨S4096x32000, .f32⟩
  | .hbm, ⟨25, _⟩ => ⟨S_, .i32⟩
  | .hbm, ⟨26, _⟩ => ⟨S1, .i32⟩
  | .hbm, ⟨27, _⟩ => ⟨S_, .f32⟩
  | .hbm, ⟨28, _⟩ => ⟨S4096, .f32⟩
  | .hbm, ⟨29, _⟩ => ⟨S4096x32000, .f32⟩
  | .hbm, ⟨30, _⟩ => ⟨S_, .i32⟩
  | .hbm, ⟨31, _⟩ => ⟨S4096x1, .i32⟩
  | .hbm, ⟨32, _⟩ => ⟨S4096x1, .i1⟩
  | .hbm, ⟨33, _⟩ => ⟨S_, .f32⟩
  | .hbm, ⟨34, _⟩ => ⟨S_, .f32⟩
  | .hbm, ⟨35, _⟩ => ⟨S4096x32000, .i1⟩
  | .hbm, ⟨36, _⟩ => ⟨S4096x32000, .f32⟩
  | .hbm, ⟨37, _⟩ => ⟨S4096x32000, .f32⟩
  | _, _ => ⟨S4096x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_1 : Ref sig .tc := ⟨.hbm, 12, rfl⟩
abbrev main_v8 : Ref sig .tc := ⟨.hbm, 13, rfl⟩
abbrev main_v9 : Ref sig .tc := ⟨.hbm, 14, rfl⟩
abbrev main_c_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_c_4 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_v20 : Ref sig .tc := ⟨.hbm, 29, rfl⟩
abbrev main_c_6 : Ref sig .tc := ⟨.hbm, 30, rfl⟩
abbrev main_v21 : Ref sig .tc := ⟨.hbm, 31, rfl⟩
abbrev main_v22 : Ref sig .tc := ⟨.hbm, 32, rfl⟩
abbrev main_cst_7 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== Proof.Spec.lean ====
/-
  Label smoothing as mathematics: what one element of the f32[4096, 32000] result is, as a function of its row's target
  token and its column. The three float values (zero, the confidence, the fill) are variables of an arbitrary type, so
  the same words serve at every reading of the floats.
-/
module

public import Idealize.ShloMosaic.PureOps
public import Idealize.ShloMosaic.Lib.ValueIdx
public import Idealize.ShloMosaic.Lib.WordCmp

@[expose] public section

namespace Cert.Smooth

open Idealize.ShloMosaic Idealize.ShloMosaic.ValueIdx

/-- The column of target tokens, i32[4096, 1]. -/
abbrev Tok : Shape := ⟨2, ![4096, 1]⟩
/-- The smoothed targets, f32[4096, 32000]. -/
abbrev Out : Shape := ⟨2, ![4096, 32000]⟩

variable {α : Type}

/-- One element: in column `c` of a row whose token is `t`. A row whose token is the padding token 0 is zero, and so is
    column 0 of every row; elsewhere the token's own column has the confidence and every other column the fill. -/
def cell (zero conf fill : α) (t : BitVec 32) (c : Nat) : α :=
  if t = 0#32 then zero else if c = 0 then zero else if BitVec.ofNat 32 c = t then conf else fill

/-- The whole result: element `(r, c)` is the cell of row `r`'s token at column `c`. -/
def smoothed (zero conf fill : α) (tok : IVec Tok 32) : Out.Idx → α :=
  fun i => cell zero conf fill (tok (ix2 (i 0) 0)) (i 1).val

/-- The whole result read at row `r`, column `c`. -/
theorem smoothed_apply (zero conf fill : α) (tok : IVec Tok 32) (r : Fin 4096) (c : Fin 32000) :
    smoothed zero conf fill tok (ix2 r c) = cell zero conf fill (tok (ix2 r 0)) c.val := rfl

/-- A select on the equality of two words is the case distinction on it. -/
theorem select_eq {w : Nat} (x y : BitVec w) (a b : α) : Scalar.select (IntOp.cmpi .eq x y) a b = if x = y then a else b := by
  rw [WordCmp.cmpi_eq_eq, WordCmp.select_decide]

/-- The word of a column number is the word 0 exactly in column 0. -/
theorem ofNat_eq_zero_iff {c : Nat} (hc : c < 32000) : BitVec.ofNat 32 c = 0#32 ↔ c = 0 := by
  rw [← BitVec.toNat_inj, BitVec.toNat_ofNat, BitVec.toNat_ofNat]
  omega

/-- For a token that is not negative, read signed: it is column `c` exactly when the word of `c` is the token. -/
theorem toInt_eq_col_iff {t : BitVec 32} (ht : t.toNat < 2 ^ 31) {c : Nat} (hc : c < 32000) :
    t.toInt = (c : Int) ↔ BitVec.ofNat 32 c = t := by
  rw [← BitVec.toNat_inj, BitVec.toNat_ofNat, BitVec.toInt_eq_toNat_cond]
  split <;> omega

end Cert.Smooth
-- ==== Proof.KernelBlock.lean ====
/-
  What one grid point of the kernel computes: from a block of 128 rows' tokens, the cells of those rows.
-/
module

public import proofs.«01_k».proof.Proof.Spec
public import proofs.«01_k».proof.Proof.Gen.Kernel.Skeleton
public import proofs.«01_k».proof.Proof.Gen.KernelIdeal.Skeleton
public import Idealize.ShloMosaic.Lib.Pipeline.Value

@[expose] public section

noncomputable section

namespace Cert.Smooth

open Idealize.ShloMosaic Idealize.ShloMosaic.ValueIdx

variable {F : FTy → Type} [FloatOps F]

/-- The tokens of one block of rows. -/
abbrev BlockTok : Shape := ⟨2, ![128, 1]⟩
/-- One block of rows of the result. -/
abbrev BlockOut : Shape := ⟨2, ![128, 32000]⟩

/-- A block's column of words repeated along the columns reads, in row `p`, as that row's word. -/
theorem repeat_apply {w : Nat} (h : BlockTok.Broadcasts BlockOut) (x : IVec BlockTok w) (p : Fin 128) (q : Fin 32000) :
    broadcastTo BlockOut x h (ix2 p q) = x (ix2 p 0) :=
  broadcastTo_apply x h _ _ fun a => by match a with | ⟨0, _⟩ => rfl | ⟨1, _⟩ => rfl

/-- The column numbers the kernel counts: in column `q`, the word of `q`. -/
theorem columns_apply (h : BlockOut.Iotas .tc 32 [1]) (p : Fin 128) (q : Fin 32000) :
    iota .tc BlockOut 32 [1] h (ix2 p q) = BitVec.ofNat 32 q.val := by
  show BitVec.ofNat 32 (0 * 32000 + q.val) = _
  rw [Nat.zero_mul, Nat.zero_add]

/-- THE BLOCK of the idealized kernel: what it stores at `(p, q)` is the cell of row `p`'s token at column `q`. -/
theorem ideal_block_apply (x : IVec BlockTok 32) (p : Fin 128) (q : Fin 32000) :
    Cert.KernelIdeal.Gen.k0_pay1 (F := F) x (ix2 p q)
      = cell (Scalar.ofBits .f32 0x00000000#32) (Scalar.ofBits .f32 0x3F666666#32) (Scalar.ofBits .f32 0x3651BA72#32)
          (x (ix2 p 0)) q.val := by
  have hq : q.val < 32000 := q.isLt
  unfold Cert.KernelIdeal.Gen.k0_pay1 cell
  rw [select_apply, repeat_apply, shapeCast_self, select_apply, select_apply]
  show Scalar.select (IntOp.cmpi .eq (x (ix2 p 0)) 0#32) _
      (Scalar.select (IntOp.cmpi .eq (iota .tc BlockOut 32 [1] _ (ix2 p q)) 0#32) _
        (Scalar.select (IntOp.cmpi .eq (iota .tc BlockOut 32 [1] _ (ix2 p q)) (broadcastTo BlockOut x _ (ix2 p q))) _ _)) = _
  rw [select_eq, select_eq, select_eq, columns_apply, repeat_apply]
  simp only [ofNat_eq_zero_iff hq]
  rfl

/-- The block of the kernel as it is compiled is the idealized one: idealizing rewrote nothing in it. -/
theorem block_eq (x : IVec BlockTok 32) : Cert.Kernel.Gen.k0_pay1 (F := F) x = Cert.KernelIdeal.Gen.k0_pay1 x := rfl

/-- THE BLOCK of the kernel: what it stores at `(p, q)` is the cell of row `p`'s token at column `q`. -/
theorem block_apply (x : IVec BlockTok 32) (p : Fin 128) (q : Fin 32000) :
    Cert.Kernel.Gen.k0_pay1 (F := F) x (ix2 p q)
      = cell (Scalar.ofBits .f32 0x00000000#32) (Scalar.ofBits .f32 0x3F666666#32) (Scalar.ofBits .f32 0x3651BA72#32)
          (x (ix2 p 0)) q.val := by
  rw [block_eq, ideal_block_apply]

end Cert.Smooth

end
-- ==== Proof.KernelIdealArray.lean ====
/-
  What the array of the idealized kernel holds after its run: the 32 grid points' blocks of 128 rows tile the result, each holding
  its rows' cells, so the whole array is the smoothed targets of `Spec.lean`. At any float values.
-/
module

public import proofs.«01_k».proof.Proof.KernelBlock
public import proofs.«01_k».proof.Proof.Gen.KernelIdeal.Value

@[expose] public section

noncomputable section

namespace Cert.Smooth.OfKernelIdeal

open Cert.KernelIdeal Cert.KernelIdeal.Gen Cert.Smooth
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ) (ρ : Dev nD → PrngReg)

/-- The smoothed targets of device `c`'s tokens: what the result array is shown to hold. -/
abbrev target (c : Dev nD) : Buf (Elt F) ((c : Thread nD τ).loc main_v0) :=
  smoothed (α := F .f32) (Scalar.ofBits .f32 0x00000000#32) (Scalar.ofBits .f32 0x3F666666#32) (Scalar.ofBits .f32 0x3651BA72#32)
    (m ((c : Thread nD τ).loc main_arg0))

/-- Both coordinates of a whole-block access start at 0. -/
theorem starts_zero : (![0, 0] : Fin 2 → Nat) = fun _ => 0 := funext fun a => by fin_cases a <;> rfl

/-- Where the two windows stand at point `t`: the tokens' and the result's block both start at row `128 t` and column 0,
    and the result's block is 128 rows by 32000 columns. -/
theorem windows_at (t : Fin cfg0.N) :
    win0_0.index t 0 = t.val ∧ win0_0.index t 1 = 0 ∧ win0_1.index t 0 = t.val ∧ win0_1.index t 1 = 0
      ∧ win0_1.xsize (grid0.coords t) 0 = 128 ∧ win0_1.xsize (grid0.coords t) 1 = 32000 :=
  (by decide +kernel : ∀ t : Fin grid0.N, win0_0.index t 0 = t.val ∧ win0_0.index t 1 = 0 ∧ win0_1.index t 0 = t.val
    ∧ win0_1.index t 1 = 0 ∧ win0_1.xsize (grid0.coords t) 0 = 128 ∧ win0_1.xsize (grid0.coords t) 1 = 32000) t

/-- What point `t` writes back is block `t` of the smoothed targets. -/
theorem flushed_eq (c : Dev nD) (t : Fin cfg0.N) :
    (dats m 0 c).flushed 1 t = (win0_1.blk t).view.read (Elt F) (target m c) := by
  obtain ⟨i00, i01, i10, i11, -, -⟩ := windows_at t
  rw [Value.flushed1]
  unfold out0_1
  rw [View.canon_unit_zero starts_zero, View.ld_unit_zero starts_zero]
  funext j
  obtain ⟨p, q, rfl⟩ : ∃ (p : Fin 128) (q : Fin 32000), j = ix2 p q := ⟨j 0, j 1, eq_ix2 j⟩
  refine (ideal_block_apply (iblk m c 0 t) p q).trans ?_
  show cell _ _ _ (m ((c : Thread nD τ).loc main_arg0) _) _ = cell _ _ _ (m ((c : Thread nD τ).loc main_arg0) _) _
  congr 1
  · refine congrArg (m ((c : Thread nD τ).loc main_arg0)) (funext fun a => Fin.ext ?_)
    match a with
    | ⟨0, _⟩ =>
      show win0_0.index t 0 * 128 + 1 * p.val = win0_1.index t 0 * 128 + 1 * p.val
      rw [i00, i10]
    | ⟨1, _⟩ =>
      show win0_0.index t 1 * 1 + 1 * 0 = 0
      rw [i01]
  · show q.val = win0_1.index t 1 * 32000 + 1 * q.val
    rw [i11]; omega

/-- An element of the result is in point `t`'s block when its row is one of the 128 from `128 t` on. -/
theorem mem_blk (t : Fin cfg0.N) (i : S4096x32000.Idx) (h : t.val * 128 ≤ (i 0).val ∧ (i 0).val < t.val * 128 + 128) :
    i ∈ ((cfg0.win 1).blk t).view.set := by
  obtain ⟨-, -, i10, i11, x0, x1⟩ := windows_at t
  show i ∈ ((View.whole main_v0).slice (win0_1.rect t)).set
  rw [View.set_slice_whole, Rect.mem_set_unit]
  intro a
  match a with
  | ⟨0, _⟩ =>
    show win0_1.index t 0 * 128 ≤ (i 0).val ∧ (i 0).val < win0_1.index t 0 * 128 + win0_1.xsize (grid0.coords t) 0
    rw [i10, x0]; exact h
  | ⟨1, _⟩ =>
    show win0_1.index t 1 * 32000 ≤ (i 1).val ∧ (i 1).val < win0_1.index t 1 * 32000 + win0_1.xsize (grid0.coords t) 1
    have h1 : (i 1).val < 32000 := (i 1).isLt
    rw [i11, x1, Nat.zero_mul, Nat.zero_add]
    exact ⟨Nat.zero_le _, h1⟩

/-- The blocks cover the result: row `r` is in block `r / 128`. -/
theorem cover (i : S4096x32000.Idx) :
    ∃ t : Fin cfg0.N, (cfg0.win 1).flush t = true ∧ i ∈ ((cfg0.win 1).blk t).view.set := by
  have h0 : (i 0).val < 4096 := (i 0).isLt
  have hN : cfg0.N = 32 := N_0
  exact ⟨⟨(i 0).val / 128, by omega⟩, flush0_1 _, mem_blk _ i (by dsimp only; omega)⟩

/-- So the result array ends holding the smoothed targets, every element of it. -/
theorem array_eq (c : Dev nD) : (dats m 0 c).arrAt 1 cfg0.N = target m c :=
  (dats m 0 c).arrAt_eq_of_cover 1 (target m c) (fun t _ => flushed_eq m c t) cover

/-- THE RUN: every weakly fair execution ends with the result at the smoothed targets of the tokens and the tokens
    unchanged. -/
theorem run : θ_run defs (onTc (τ := τ) (main (F := F))) ⟨m, fun _ => 0, ρ⟩ fun r => ∀ c : Dev nD,
      r.2.mem ((c : Thread nD τ).loc main_v0) = target m c
      ∧ r.2.mem ((c : Thread nD τ).loc main_arg0) = m ((c : Thread nD τ).loc main_arg0) :=
  (θ_run defs _ _).mono (fun _ h c => ⟨(h c).1.trans (array_eq m c), (h c).2⟩) (Value.run_blocks m ρ)

end Cert.Smooth.OfKernelIdeal

end
-- ==== Proof.Scatter.lean ====
/-
  The reference's two writes read at one element, at any element type and any extents:
  `x.at[rows, cols].set(v)` (one pair of index words for each update) and `x.at[:, 0].set(v)` (one index word), every
  update of a write being the same value `v`.
-/
module

public import Idealize.ShloMosaic.Lib.Routing.OpsOne
public import Idealize.ShloMosaic.Lib.Routing.OpsPair

@[expose] public section

namespace Cert.Smooth

open Idealize.ShloMosaic Idealize.ShloMosaic.ValueIdx Idealize.ShloMosaic.Routing

/-- Update `k` of `x.at[rows, cols].set(v)` lands at `(r, c)` exactly when its two index words, read signed, are `r` and
    `c`. Nothing is asked of the words: a pair outside the array lands nowhere. -/
theorem lands_pair {R C K w : Nat} (d : ScatterDims (shape2 R C) (shape2 K 2) (shape1 K)) (hiw : d.insertedWindowDims = [0, 1])
    (hsd : d.scatterDimsToOperandDims = [0, 1]) (hivd : d.indexVectorDim = 1) (idx : IVec (shape2 K 2) w)
    (k : Fin K) (r : Fin R) (c : Fin C) :
    d.resultIdx? (ix1 k) idx = some (ix2 r c) ↔ (idx (ix2 k 0)).toInt = r.val ∧ (idx (ix2 k 1)).toInt = c.val := by
  have mem (q : Fin 2) : q ∈ d.scatterDimsToOperandDims := by rw [hsd]; fin_cases q <;> simp
  -- both axes of the operand are inserted: an update has no window coordinate
  have window0 (q : Fin 2) : d.window (ix1 k) q = 0 := by
    unfold ScatterDims.window
    refine dif_neg fun h => ?_
    have out : q ∉ d.insertedWindowDims := of_decide_eq_true (List.mem_filter.1 h).2
    exact out (by rw [hiw]; fin_cases q <;> simp)
  -- coordinate `q` of the update's start is word `q` of its row of the index array
  have start_eq (q : Fin 2) : d.start (ix1 k) idx q = (idx (ix2 k q)).toInt := by
    have row (X : Fin 1) : (ix1 k X).val = k.val := by rw [Subsingleton.elim X 0]
    unfold ScatterDims.start
    rw [dif_pos (mem q)]
    refine congrArg (fun i => (idx i).toInt) (funext fun b => Fin.ext ?_)
    match b with
    | ⟨0, _⟩ =>
      unfold ScatterDims.siIdx
      rw [dif_neg (by rw [hivd]; exact Nat.zero_ne_one)]
      unfold ScatterDims.siCoord
      simp only [Fin.val_cast]
      exact row _
    | ⟨1, _⟩ =>
      unfold ScatterDims.siIdx
      rw [dif_pos (by rw [hivd])]
      show List.idxOf q d.scatterDimsToOperandDims = q.val
      rw [hsd]; fin_cases q <;> rfl
  rw [resultIdx?_ix2, start_eq, start_eq, window0, window0, Nat.cast_zero, Int.add_zero, Int.add_zero]

variable {α : Type}

/-- `x.at[rows, cols].set(v)` where update `k`'s row word is `k` itself (one update for each row): row `r` has `v` in the
    column that its column word names, read signed, and is otherwise as it was. -/
theorem set_pair {R C w : Nat} (d : ScatterDims (shape2 R C) (shape2 R 2) (shape1 R)) (hiw : d.insertedWindowDims = [0, 1])
    (hsd : d.scatterDimsToOperandDims = [0, 1]) (hivd : d.indexVectorDim = 1) (x0 : (shape2 R C).Idx → α)
    (idx : IVec (shape2 R 2) w) (upd : (shape1 R).Idx → α) (v : α) (hupd : ∀ k, upd k = v)
    (hrow : ∀ k : Fin R, (idx (ix2 k 0)).toInt = k.val) (r : Fin R) (c : Fin C) :
    Host.scatter d (fun _ b => b) x0 idx upd (ix2 r c) = if (idx (ix2 r 1)).toInt = c.val then v else x0 (ix2 r c) := by
  by_cases h : (idx (ix2 r 1)).toInt = c.val
  · rw [if_pos h]
    exact scatter_set_hit d x0 idx upd _ v (fun k _ => hupd k) (ix1 r) ((lands_pair d hiw hsd hivd idx r r c).2 ⟨hrow r, h⟩)
  · rw [if_neg h]
    refine scatter_set_miss d x0 idx upd _ fun k hk => h ?_
    obtain ⟨j, rfl⟩ : ∃ j : Fin R, k = ix1 j := ⟨k 0, eq_ix1 k⟩
    rw [lands_pair d hiw hsd hivd, hrow] at hk
    obtain rfl : j = r := Fin.ext (by exact_mod_cast hk.1)
    exact hk.2

/-- `x.at[:, e].set(v)`, the one index word naming column `e`: column `e` has `v` in every row and the other columns are
    as they were. -/
theorem set_col {R C : Nat} (d : ScatterDims (shape2 R C) (shape1 1) (shape1 R)) (hiw : d.insertedWindowDims = [1])
    (hsd : d.scatterDimsToOperandDims = [1]) (x0 : (shape2 R C).Idx → α) (idx : IVec (shape1 1) 32)
    (upd : (shape1 R).Idx → α) (v : α) (hupd : ∀ k, upd k = v) (e : Fin C) (he : (idx (ix1 0)).toInt = e.val)
    (r : Fin R) (c : Fin C) :
    Host.scatter d (fun _ b => b) x0 idx upd (ix2 r c) = if c = e then v else x0 (ix2 r c) := by
  by_cases h : c = e
  · rw [if_pos h]
    exact scatter_set_hit d x0 idx upd _ v (fun k _ => hupd k) (ix1 r) ((lands_col d hiw hsd idx e he r r c).2 ⟨rfl, h⟩)
  · rw [if_neg h]
    refine scatter_set_miss d x0 idx upd _ fun k hk => h ?_
    obtain ⟨j, rfl⟩ : ∃ j : Fin R, k = ix1 j := ⟨k 0, eq_ix1 k⟩
    exact ((lands_col d hiw hsd idx e he j r c).1 hk).2

end Cert.Smooth
-- ==== Proof.RefCell.lean ====
/-
  What the reference's array program computes, read at one element: its term is the smoothed targets of `Spec.lean`,
  whatever evidence the program carries for its shapes, at any float values and at any tokens that are not negative.
-/
module

public import proofs.«01_k».proof.Proof.Spec
public import proofs.«01_k».proof.Proof.Scatter
public import Idealize.ShloMosaic.Lib.Pipeline.Value
public import Idealize.ShloMosaic.Lib.ValueLayoutCasts

@[expose] public section

namespace Cert.Smooth

open Idealize.ShloMosaic Idealize.ShloMosaic.ValueIdx Idealize.ShloMosaic.Routing

/-- A scalar. -/
abbrev Scal : Shape := ⟨0, ![]⟩
/-- One word for each row. -/
abbrev Row : Shape := ⟨1, ![4096]⟩
/-- A pair of index words for each row. -/
abbrev Pairs : Shape := ⟨2, ![4096, 2]⟩
/-- One index word. -/
abbrev One : Shape := ⟨1, ![1]⟩

variable {F : FTy → Type} [FloatOps F]

/-- A scalar integer literal broadcast to any shape is that literal everywhere. -/
theorem literal_apply {t : Shape} (h : Scal.BroadcastsInDim t ![]) (k : BitVec 32) (j : t.Idx) :
    broadcastInDim t ![] h (constantI Scal 32 k) j = k := rfl

/-- A scalar float literal broadcast to any shape is that literal everywhere. -/
theorem float_literal_apply {t : Shape} (h : Scal.BroadcastsInDim t ![]) (k : BitVec 32) (j : t.Idx) :
    broadcastInDim t ![] h (constant (F := F) Scal .f32 k) j = Scalar.ofBits .f32 k := rfl

/-- One word for each row, laid out as a column, reads at row `r` as that row's word. -/
theorem column_apply (h : Row.BroadcastsInDim Tok ![0]) (x : IVec Row 32) (r : Fin 4096) :
    broadcastInDim Tok ![0] h x (ix2 r 0) = x (ix1 r) :=
  broadcastInDim_apply _ h x _ _ fun a => by match a with | ⟨0, _⟩ => rfl

/-- A column flattened to one word for each row reads at row `r` as the column's word there. -/
theorem flat_apply (h : Tok.ShapeCasts Row) (x : IVec Tok 32) (r : Fin 4096) :
    shapeCast Row x h (ix1 r) = x (ix2 r 0) :=
  shapeCast_apply x h _ _ (by
    rw [Shape.rowMajor_val_two, Shape.rowMajor_val_one]
    exact Nat.mul_one _)

/-- jnp's wrap of the row numbers, `where(i < 0, i + 4096, i)`, changes nothing: row `r`'s word is `r`. -/
theorem row_word (h : Scal.BroadcastsInDim Row ![]) (r : Fin 4096) :
    select (cmpi .slt (iotaInDim Row 32 0) (broadcastInDim Row ![] h (constantI Scal 32 0#32)))
      (addi (iotaInDim Row 32 0) (broadcastInDim Row ![] h (constantI Scal 32 4096#32))) (iotaInDim Row 32 0) (ix1 r)
      = BitVec.ofNat 32 r.val := by
  have hr : r.val < 4096 := r.isLt
  exact wrap_of_lt (BitVec.ofNat 32 r.val) _ (by rw [BitVec.toNat_ofNat]; omega)

/-- jnp's wrap of the tokens, `where(t < 0, t + 32000, t)`, leaves a token that is not negative as it is. -/
theorem col_word (h : Scal.BroadcastsInDim Row ![]) (hc : Tok.ShapeCasts Row) (tok : IVec Tok 32) (r : Fin 4096)
    (ht : (tok (ix2 r 0)).toNat < 2 ^ 31) :
    select (cmpi .slt (shapeCast Row tok hc) (broadcastInDim Row ![] h (constantI Scal 32 0#32)))
      (addi (shapeCast Row tok hc) (broadcastInDim Row ![] h (constantI Scal 32 32000#32))) (shapeCast Row tok hc) (ix1 r)
      = tok (ix2 r 0) := by
  rw [← flat_apply hc tok r] at ht ⊢
  exact wrap_of_lt (shapeCast Row tok hc (ix1 r)) _ ht

/-- The reference's array program, as its run leaves it, at evidence for its shapes given by name: fill the array, write
    the confidence at (row, token), write zero down column 0, and zero the rows whose token is 0. -/
abbrev refTerm (dp : ScatterDims Out Pairs Row) (dc : ScatterDims Out One Row) (hSO : Scal.BroadcastsInDim Out ![])
    (hSR : Scal.BroadcastsInDim Row ![]) (hST : Scal.BroadcastsInDim Tok ![]) (hS1 : Scal.BroadcastsInDim One ![])
    (hRT : Row.BroadcastsInDim Tok ![0]) (hTO : Tok.BroadcastsInDim Out ![0, 1]) (hTR : Tok.ShapeCasts Row)
    (hcat : Shape.Concatenates [Tok, Tok] Pairs 1) (tok : IVec Tok 32) : FVec F Out .f32 :=
  select (broadcastInDim Out ![0, 1] hTO (cmpi .eq tok (broadcastInDim Tok ![] hST (constantI Scal 32 0#32))))
    (broadcastInDim Out ![] hSO (id (constant (F := F) Scal .f32 0x00000000#32)))
    (Host.scatter dc (fun _ b => b)
      (Host.scatter dp (fun _ b => b) (broadcastInDim Out ![] hSO (constant (F := F) Scal .f32 0x3651BA72#32))
        (concatenate Pairs 1
          [⟨Tok, broadcastInDim Tok ![0] hRT
              (select (cmpi .slt (iotaInDim Row 32 0) (broadcastInDim Row ![] hSR (constantI Scal 32 0#32)))
                (addi (iotaInDim Row 32 0) (broadcastInDim Row ![] hSR (constantI Scal 32 4096#32))) (iotaInDim Row 32 0))⟩,
           ⟨Tok, broadcastInDim Tok ![0] hRT
              (select (cmpi .slt (shapeCast Row tok hTR) (broadcastInDim Row ![] hSR (constantI Scal 32 0#32)))
                (addi (shapeCast Row tok hTR) (broadcastInDim Row ![] hSR (constantI Scal 32 32000#32))) (shapeCast Row tok hTR))⟩]
          hcat)
        (broadcastInDim Row ![] hSR (constant (F := F) Scal .f32 0x3F666666#32)))
      (broadcastInDim One ![] hS1 (constantI Scal 32 0#32))
      (broadcastInDim Row ![] hSR (constant (F := F) Scal .f32 0x00000000#32)))

/-- THE REFERENCE'S VALUE: where no token is negative, the array program is the smoothed targets. -/
theorem refTerm_eq (dp : ScatterDims Out Pairs Row) (dc : ScatterDims Out One Row) (hSO : Scal.BroadcastsInDim Out ![])
    (hSR : Scal.BroadcastsInDim Row ![]) (hST : Scal.BroadcastsInDim Tok ![]) (hS1 : Scal.BroadcastsInDim One ![])
    (hRT : Row.BroadcastsInDim Tok ![0]) (hTO : Tok.BroadcastsInDim Out ![0, 1]) (hTR : Tok.ShapeCasts Row)
    (hcat : Shape.Concatenates [Tok, Tok] Pairs 1) (tok : IVec Tok 32)
    (hpi : dp.insertedWindowDims = [0, 1]) (hps : dp.scatterDimsToOperandDims = [0, 1]) (hpv : dp.indexVectorDim = 1)
    (hci : dc.insertedWindowDims = [1]) (hcs : dc.scatterDimsToOperandDims = [1])
    (ht : ∀ r : Fin 4096, (tok (ix2 r 0)).toNat < 2 ^ 31) :
    refTerm (F := F) dp dc hSO hSR hST hS1 hRT hTO hTR hcat tok
      = smoothed (Scalar.ofBits .f32 0x00000000#32) (Scalar.ofBits .f32 0x3F666666#32) (Scalar.ofBits .f32 0x3651BA72#32) tok := by
  funext i
  obtain ⟨r, c, rfl⟩ : ∃ (r : Fin 4096) (c : Fin 32000), i = ix2 r c := ⟨i 0, i 1, eq_ix2 i⟩
  have hc : c.val < 32000 := c.isLt
  rw [smoothed_apply]
  unfold cell refTerm
  -- the mask: the row's token against 0
  rw [select_apply, broadcastInDim_apply _ hTO _ _ (ix2 r 0) (fun a => by match a with | ⟨0, _⟩ => rfl | ⟨1, _⟩ => rfl)]
  show Scalar.select (IntOp.cmpi .eq (tok (ix2 r 0)) 0#32) (Scalar.ofBits .f32 0x00000000#32) _ = _
  rw [select_eq]
  refine if_congr Iff.rfl rfl ?_
  -- column 0
  refine (set_col dc hci hcs _ _ _ (Scalar.ofBits .f32 0x00000000#32) (float_literal_apply hSR _) ⟨0, by decide⟩ (by rfl) r c).trans ?_
  have hc0 : c = ⟨0, by decide⟩ ↔ c.val = 0 := Fin.ext_iff
  refine if_congr hc0 rfl ?_
  -- the token's own column: the pair of words of row `k` is `k` and its token
  refine (set_pair dp hpi hps hpv _ _ _ (Scalar.ofBits .f32 0x3F666666#32) (float_literal_apply hSR _) (fun k => ?row) r c).trans ?_
  case row =>
    rw [concatenate_pair_apply_left (s₁ := Tok) (s₂ := Tok) 1 _ _ hcat (ix2 k 0) rfl (ix2 k 0)
      (fun b => by match b with | ⟨0, _⟩ => rfl | ⟨1, _⟩ => rfl), column_apply, row_word]
    exact StableHlo.Predicate.toInt_ofNat_small _ (by have := k.isLt; omega)
  rw [concatenate_pair_apply_right (s₁ := Tok) (s₂ := Tok) 1 _ _ hcat (ix2 r 1) rfl rfl (ix2 r 0)
      (fun b hb => by match b with | ⟨0, _⟩ => rfl | ⟨1, _⟩ => exact absurd rfl hb) (by rfl), column_apply, col_word hSR hTR tok r (ht r)]
  exact if_congr (toInt_eq_col_iff (ht r) hc) rfl rfl

end Cert.Smooth
-- ==== Proof.RefRun.lean ====
/-
  The reference's run read back: with no token negative, the reference, and its idealization, end with the smoothed
  targets of `Spec.lean` in their result.
-/
module

public import proofs.«01_k».proof.Proof.RefCell
public import proofs.«01_k».proof.Proof.Gen.Pre_tokens_nonneg
public import proofs.«01_k».proof.Proof.Gen.Reference.Run
public import proofs.«01_k».proof.Proof.Gen.ReferenceIdeal.Run

@[expose] public section

noncomputable section

namespace Cert.Smooth

open Idealize.ShloMosaic Idealize.ShloMosaic.TcCoe Idealize.ShloMosaic.ValueIdx Idealize.SL.Sem

variable {F : FTy → Type} [FloatOps F]

/-- The precondition read at a row: its token, read signed, is not negative. -/
theorem token_lt (tok : IVec Tok 32) (h : Cert.Pre_tokens_nonneg.fn (F := F) tok = fun _ => 1#1) (r : Fin 4096) :
    (tok (ix2 r 0)).toNat < 2 ^ 31 := by
  have e : IntOp.cmpi .sge (tok (ix2 r 0)) 0#32 = 1#1 := congrFun h (ix2 r 0)
  rw [WordCmp.cmpi_sge_zero, WordCmp.ofBool_decide_eq_one_iff] at e
  exact e

/-- THE RUN of the reference: where no token is negative, every weakly fair execution ends with the result at the
    smoothed targets of the tokens and the tokens unchanged. -/
theorem reference_run (m : (ℓ : Loc Cert.Reference.nD Cert.Reference.τ Cert.Reference.sig) → Buf (Elt F) ℓ) (ρ : Dev Cert.Reference.nD → PrngReg)
    (ht : ∀ (c : Dev Cert.Reference.nD) (r : Fin 4096),
      ((m ((c : Thread Cert.Reference.nD Cert.Reference.τ).loc Cert.Reference.main_arg0) : IVec Tok 32) (ix2 r 0)).toNat < 2 ^ 31) :
    θ_run Cert.Reference.defs (onTc (τ := Cert.Reference.τ) (Cert.Reference.main (F := F))) ⟨m, fun _ => 0, ρ⟩ fun r =>
      ∀ c : Dev Cert.Reference.nD,
        r.2.mem ((c : Thread Cert.Reference.nD Cert.Reference.τ).loc Cert.Reference.main_v23)
            = smoothed (α := F .f32) (Scalar.ofBits .f32 0x00000000#32) (Scalar.ofBits .f32 0x3F666666#32) (Scalar.ofBits .f32 0x3651BA72#32)
                (m ((c : Thread Cert.Reference.nD Cert.Reference.τ).loc Cert.Reference.main_arg0))
        ∧ r.2.mem ((c : Thread Cert.Reference.nD Cert.Reference.τ).loc Cert.Reference.main_arg0)
            = m ((c : Thread Cert.Reference.nD Cert.Reference.τ).loc Cert.Reference.main_arg0) :=
  (θ_run Cert.Reference.defs _ _).mono
    (fun _ h c => ⟨(h c).1.trans (refTerm_eq _ _ _ _ _ _ _ _ _ _ _ rfl rfl rfl rfl rfl (ht c)), (h c).2⟩)
    (Cert.Reference.Value.run m ρ)

/-- THE RUN of the reference's idealization: where no token is negative, every weakly fair execution ends with the result at the
    smoothed targets of the tokens and the tokens unchanged. -/
theorem ideal_reference_run (m : (ℓ : Loc Cert.ReferenceIdeal.nD Cert.ReferenceIdeal.τ Cert.ReferenceIdeal.sig) → Buf (Elt F) ℓ) (ρ : Dev Cert.ReferenceIdeal.nD → PrngReg)
    (ht : ∀ (c : Dev Cert.ReferenceIdeal.nD) (r : Fin 4096),
      ((m ((c : Thread Cert.ReferenceIdeal.nD Cert.ReferenceIdeal.τ).loc Cert.ReferenceIdeal.main_arg0) : IVec Tok 32) (ix2 r 0)).toNat < 2 ^ 31) :
    θ_run Cert.ReferenceIdeal.defs (onTc (τ := Cert.ReferenceIdeal.τ) (Cert.ReferenceIdeal.main (F := F))) ⟨m, fun _ => 0, ρ⟩ fun r =>
      ∀ c : Dev Cert.ReferenceIdeal.nD,
        r.2.mem ((c : Thread Cert.ReferenceIdeal.nD Cert.ReferenceIdeal.τ).loc Cert.ReferenceIdeal.main_v23)
            = smoothed (α := F .f32) (Scalar.ofBits .f32 0x00000000#32) (Scalar.ofBits .f32 0x3F666666#32) (Scalar.ofBits .f32 0x3651BA72#32)
                (m ((c : Thread Cert.ReferenceIdeal.nD Cert.ReferenceIdeal.τ).loc Cert.ReferenceIdeal.main_arg0))
        ∧ r.2.mem ((c : Thread Cert.ReferenceIdeal.nD Cert.ReferenceIdeal.τ).loc Cert.ReferenceIdeal.main_arg0)
            = m ((c : Thread Cert.ReferenceIdeal.nD Cert.ReferenceIdeal.τ).loc Cert.ReferenceIdeal.main_arg0) :=
  (θ_run Cert.ReferenceIdeal.defs _ _).mono
    (fun _ h c => ⟨(h c).1.trans (refTerm_eq _ _ _ _ _ _ _ _ _ _ _ rfl rfl rfl rfl rfl (ht c)), (h c).2⟩)
    (Cert.ReferenceIdeal.Value.run m ρ)

end Cert.Smooth

end
-- ==== Proof.lean ====
/-
  The certificate of the label-smoothing kernel. The result of kernel and reference alike is `Smooth.smoothed` of the
  tokens (Proof/Spec.lean). Proof/KernelBlock.lean reads one block of the kernel, Proof/KernelArray.lean and
  Proof/KernelIdealArray.lean its whole array, Proof/Scatter.lean and Proof/RefCell.lean the reference's term,
  Proof/RefRun.lean the reference's run; here they meet, claim by claim.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Reference
public import proofs.«01_k».proof.Proof.Gen.ReferenceIdeal
public import proofs.«01_k».proof.Proof.Gen.Pre_tokens_nonneg
public import proofs.«01_k».proof.Proof.Gen.Kernel.Value
public import proofs.«01_k».proof.Proof.Gen.KernelIdeal.Value
public import proofs.«01_k».proof.Proof.Gen.Reference.Run
public import proofs.«01_k».proof.Proof.Gen.ReferenceIdeal.Run
public import proofs.«01_k».proof.Proof.KernelArray
public import proofs.«01_k».proof.Proof.KernelIdealArray
public import proofs.«01_k».proof.Proof.RefRun
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The frame of the kernel: every run ends, with the tokens unchanged and every semaphore at zero. -/
theorem frame_kernel : Cert.quiescent_Kernel := fun m ρ _ => Cert.Kernel.Gen.frame m ρ

/-- The frame of the idealized kernel. -/
theorem frame_kernel_ideal : Cert.quiescent_KernelIdeal := fun m ρ _ => Cert.KernelIdeal.Gen.frame m ρ

/-- The frame of the reference, which declares no semaphore. -/
theorem frame_reference : Cert.quiescent_Reference := fun m ρ _ =>
  (θ_run Cert.Reference.defs _ _).mono
    (fun r h => ⟨fun c => (h c).2, Idealize.ShloMosaic.sem_eq_zero_of_no_sems (by decide) r.2⟩)
    (Cert.Reference.Value.run (F := Bits) m ρ)

/-- The frame of the reference's idealization, which declares no semaphore. -/
theorem frame_reference_ideal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Over the extended reals: where no token is negative, the idealized kernel and the idealized reference end with equal
    results, the smoothed targets. -/
theorem algebraic : Cert.algebraic_KernelIdeal_ReferenceIdeal_pre_tokens_nonneg := by
  intro m ρ m' ρ' hpre hagree
  refine ⟨fun c => Cert.Smooth.OfKernelIdeal.target m c, Cert.Smooth.OfKernelIdeal.run m ρ, ?_⟩
  refine (θ_run Cert.ReferenceIdeal.defs _ _).mono (fun _ h c => ⟨(h c).1.trans ?_, (h c).2⟩)
    (Cert.Smooth.ideal_reference_run (F := Ideal) m' ρ' fun c r => ?_)
  · rw [hagree c]; exact Cert.Smooth.token_lt _ (hpre c) r
  · rw [hagree c]

/-- Bit for bit: where no token is negative, the kernel and the reference end with the same words, the smoothed targets. -/
theorem bitexact : Cert.bitexact_Kernel_Reference_pre_tokens_nonneg := by
  intro m ρ m' ρ' hpre hagree
  refine ⟨fun c => Cert.Smooth.OfKernel.target m c, Cert.Smooth.OfKernel.run m ρ, ?_⟩
  refine (θ_run Cert.Reference.defs _ _).mono (fun _ h c => ⟨(h c).1.trans ?_, (h c).2⟩)
    (Cert.Smooth.reference_run (F := Bits) m' ρ' fun c r => ?_)
  · rw [hagree c]; exact Cert.Smooth.token_lt _ (hpre c) r
  · rw [hagree c]

/-- Every claim of the certificate. Idealizing rewrote nothing, so the ideal programs are kept as they were. -/
theorem claim : Cert.Claim :=
  ⟨Cert.Kernel.Gen.facts, Cert.KernelIdeal.Gen.facts, Cert.Reference.Gen.facts, Cert.ReferenceIdeal.Gen.facts,
    Cert.Pre_tokens_nonneg.Gen.facts,
    frame_kernel, fun m ρ _ => Cert.Kernel.Gen.frame m ρ, frame_kernel_ideal, fun m ρ _ => Cert.KernelIdeal.Gen.frame m ρ,
    frame_reference, fun m ρ _ => frame_reference m ρ trivial, frame_reference_ideal,
    fun m ρ _ => frame_reference_ideal m ρ trivial, trivial, algebraic, bitexact⟩

end Cert.Proof

end
